-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_plain_layer_norm [hPre_plain_layer_norm : Cert.Pre_plain_layer_norm.Facts] (m : (ℓ : Loc Cert.KernelIdeal.nD Cert.KernelIdeal.τ Cert.KernelIdeal.sig) → Buf (Elt Ideal) ℓ) : Prop :=
  ∀ c : Dev Cert.KernelIdeal.nD,
    (Cert.Pre_plain_layer_norm.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_plain_layer_norm [hPre_plain_layer_norm : Cert.Pre_plain_layer_norm.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_plain_layer_norm.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_plain_layer_norm [hKernelIdeal : Cert.KernelIdeal.Facts] [hPre_plain_layer_norm : Cert.Pre_plain_layer_norm.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_plain_layer_norm m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_plain_layer_norm [hReferenceIdeal : Cert.ReferenceIdeal.Facts] [hPre_plain_layer_norm : Cert.Pre_plain_layer_norm.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_plain_layer_norm m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  IdealRules.named_const.Statement Cert.KernelIdeal.κ "inv_d" .f32 0x3AAAAAAB#32 ((1 / 768 : ℝ) : EReal)

def algebraic_KernelIdeal_ReferenceIdeal_pre_plain_layer_norm [hKernelIdeal : Cert.KernelIdeal.Facts] [hReferenceIdeal : Cert.ReferenceIdeal.Facts] [hPre_plain_layer_norm : Cert.Pre_plain_layer_norm.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_plain_layer_norm m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_plain_layer_norm : Cert.Pre_plain_layer_norm.Facts),
    quiescent_Kernel (hKernel := hKernel)
    ∧ quiescent_KernelIdeal (hKernelIdeal := hKernelIdeal)
    ∧ quiescent_KernelIdeal_pre_plain_layer_norm (hKernelIdeal := hKernelIdeal) (hPre_plain_layer_norm := hPre_plain_layer_norm)
    ∧ quiescent_ReferenceIdeal (hReferenceIdeal := hReferenceIdeal)
    ∧ quiescent_ReferenceIdeal_pre_plain_layer_norm (hReferenceIdeal := hReferenceIdeal) (hPre_plain_layer_norm := hPre_plain_layer_norm)
    ∧ preserves_Kernel_KernelIdeal
    ∧ algebraic_KernelIdeal_ReferenceIdeal_pre_plain_layer_norm (hKernelIdeal := hKernelIdeal) (hReferenceIdeal := hReferenceIdeal) (hPre_plain_layer_norm := hPre_plain_layer_norm)
-- ==== Pre_plain_layer_norm.lean ====
abbrev S32x512x768 : Shape := ⟨3, ![32, 512, 768]⟩
abbrev S768x768 : Shape := ⟨2, ![768, 768]⟩
abbrev S768 : Shape := ⟨1, ![768]⟩
abbrev S768x3 : Shape := ⟨2, ![768, 3]⟩
abbrev S3 : Shape := ⟨1, ![3]⟩
abbrev S768x5 : Shape := ⟨2, ![768, 5]⟩
abbrev S5 : Shape := ⟨1, ![5]⟩
abbrev S_ : Shape := ⟨0, ![]⟩

class Facts : Prop where
  bcast_S_S32x512x768 : S_.BroadcastsInDim S32x512x768 (![] : Fin 0 → Fin S32x512x768.rank)
  reducesTo_S32x512x768_S_d0_1_2 : S32x512x768.ReducesTo [0, 1, 2] S_
  h_S_ : 0 < S_.numel
  bcast_S_S768x768 : S_.BroadcastsInDim S768x768 (![] : Fin 0 → Fin S768x768.rank)
  reducesTo_S768x768_S_d0_1 : S768x768.ReducesTo [0, 1] S_
  bcast_S_S768 : S_.BroadcastsInDim S768 (![] : Fin 0 → Fin S768.rank)
  reducesTo_S768_S_d0 : S768.ReducesTo [0] S_
  bcast_S_S3 : S_.BroadcastsInDim S3 (![] : Fin 0 → Fin S3.rank)
  reducesTo_S3_S_d0 : S3.ReducesTo [0] S_
  bcast_S_S5 : S_.BroadcastsInDim S5 (![] : Fin 0 → Fin S5.rank)
  reducesTo_S5_S_d0 : S5.ReducesTo [0] S_

variable [Facts]

def fn_part2 {F : FTy → Type} [FloatOps F] (main_arg6 : FVec F S768 .f32) (main_v29 : IVec S_ 1) (main_v31 : IVec S768 1) (main_c_13 : IVec S_ 1) : IVec S_ 1 :=
  let main_v32 : IVec S_ 1 := (fun x v => Host.reduce IntOp.andi x v reducesTo_S768_S_d0 h_S_) main_v31 main_c_13
  let main_v33 : IVec S_ 1 := andi main_v29 main_v32
  let main_cst_14 : FVec F S_ .f32 := constant S_ .f32 0x00000000#32
  let main_v34 : FVec F S768 .f32 := broadcastInDim S768 ![] bcast_S_S768 main_cst_14
  let main_v35 : IVec S768 1 := cmpf .oeq main_arg6 main_v34
  let main_c_15 : IVec S_ 1 := constantI S_ 1 1#1
  let main_v36 : IVec S_ 1 := (fun x v => Host.reduce IntOp.andi x v reducesTo_S768_S_d0 h_S_) main_v35 main_c_15
  let main_v37 : IVec S_ 1 := andi main_v33 main_v36
  main_v37

def fn_part1 {F : FTy → Type} [FloatOps F] (main_arg4 : FVec F S768 .f32) (main_arg5 : FVec F S768 .f32) (main_arg6 : FVec F S768 .f32) (main_arg8 : FVec F S3 .f32) (main_arg10 : FVec F S5 .f32) (main_v13 : IVec S_ 1) (main_v15 : IVec S768 1) (main_c_5 : IVec S_ 1) : IVec S_ 1 :=
  let main_v16 : IVec S_ 1 := (fun x v => Host.reduce IntOp.andi x v reducesTo_S768_S_d0 h_S_) main_v15 main_c_5
  let main_cst_6 : FVec F S_ .f32 := constant S_ .f32 0x00000000#32
  let main_v17 : FVec F S768 .f32 := broadcastInDim S768 ![] bcast_S_S768 main_cst_6
  let main_v18 : IVec S768 1 := cmpf .oeq main_arg4 main_v17
  let main_c_7 : IVec S_ 1 := constantI S_ 1 1#1
  let main_v19 : IVec S_ 1 := (fun x v => Host.reduce IntOp.andi x v reducesTo_S768_S_d0 h_S_) main_v18 main_c_7
  let main_v20 : IVec S_ 1 := andi main_v16 main_v19
  let main_cst_8 : FVec F S_ .f32 := constant S_ .f32 0x00000000#32
  let main_v21 : FVec F S3 .f32 := broadcastInDim S3 ![] bcast_S_S3 main_cst_8
  let main_v22 : IVec S3 1 := cmpf .oeq main_arg8 main_v21
  let main_c_9 : IVec S_ 1 := constantI S_ 1 1#1
  let main_v23 : IVec S_ 1 := (fun x v => Host.reduce IntOp.andi x v reducesTo_S3_S_d0 h_S_) main_v22 main_c_9
  let main_v24 : IVec S_ 1 := andi main_v20 main_v23
  let main_cst_10 : FVec F S_ .f32 := constant S_ .f32 0x00000000#32
  let main_v25 : FVec F S5 .f32 := broadcastInDim S5 ![] bcast_S_S5 main_cst_10
  let main_v26 : IVec S5 1 := cmpf .oeq main_arg10 main_v25
  let main_c_11 : IVec S_ 1 := constantI S_ 1 1#1
  let main_v27 : IVec S_ 1 := (fun x v => Host.reduce IntOp.andi x v reducesTo_S5_S_d0 h_S_) main_v26 main_c_11
  let main_v28 : IVec S_ 1 := andi main_v24 main_v27
  let main_v29 : IVec S_ 1 := andi main_v13 main_v28
  let main_cst_12 : FVec F S_ .f32 := constant S_ .f32 0x3F800000#32
  let main_v30 : FVec F S768 .f32 := broadcastInDim S768 ![] bcast_S_S768 main_cst_12
  let main_v31 : IVec S768 1 := cmpf .oeq main_arg5 main_v30
  let main_c_13 : IVec S_ 1 := constantI S_ 1 1#1
  fn_part2 (F := F) main_arg6 main_v29 main_v31 main_c_13

def fn {F : FTy → Type} [FloatOps F] (main_arg0 : FVec F S32x512x768 .f32) (main_arg1 : FVec F S768x768 .f32) (main_arg2 : FVec F S768 .f32) (main_arg3 : FVec F S768x768 .f32) (main_arg4 : FVec F S768 .f32) (main_arg5 : FVec F S768 .f32) (main_arg6 : FVec F S768 .f32) (main_arg7 : FVec F S768x3 .f32) (main_arg8 : FVec F S3 .f32) (main_arg9 : FVec F S768x5 .f32) (main_arg10 : FVec F S5 .f32) : IVec S_ 1 :=
  let main_v0 : FVec F S32x512x768 .f32 := Host.absf main_arg0
  let main_cst : FVec F S_ .f32 := constant S_ .f32 0x7F800000#32
  let main_v1 : FVec F S32x512x768 .f32 := broadcastInDim S32x512x768 ![] bcast_S_S32x512x768 main_cst
  let main_v2 : IVec S32x512x768 1 := cmpf .olt main_v0 main_v1
  let main_c : IVec S_ 1 := constantI S_ 1 1#1
  let main_v3 : IVec S_ 1 := (fun x v => Host.reduce IntOp.andi x v reducesTo_S32x512x768_S_d0_1_2 h_S_) main_v2 main_c
  let main_v4 : FVec F S768x768 .f32 := Host.absf main_arg1
  let main_cst_0 : FVec F S_ .f32 := constant S_ .f32 0x7F800000#32
  let main_v5 : FVec F S768x768 .f32 := broadcastInDim S768x768 ![] bcast_S_S768x768 main_cst_0
  let main_v6 : IVec S768x768 1 := cmpf .olt main_v4 main_v5
  let main_c_1 : IVec S_ 1 := constantI S_ 1 1#1
  let main_v7 : IVec S_ 1 := (fun x v => Host.reduce IntOp.andi x v reducesTo_S768x768_S_d0_1 h_S_) main_v6 main_c_1
  let main_v8 : IVec S_ 1 := andi main_v3 main_v7
  let main_v9 : FVec F S768x768 .f32 := Host.absf main_arg3
  let main_cst_2 : FVec F S_ .f32 := constant S_ .f32 0x7F800000#32
  let main_v10 : FVec F S768x768 .f32 := broadcastInDim S768x768 ![] bcast_S_S768x768 main_cst_2
  let main_v11 : IVec S768x768 1 := cmpf .olt main_v9 main_v10
  let main_c_3 : IVec S_ 1 := constantI S_ 1 1#1
  let main_v12 : IVec S_ 1 := (fun x v => Host.reduce IntOp.andi x v reducesTo_S768x768_S_d0_1 h_S_) main_v11 main_c_3
  let main_v13 : IVec S_ 1 := andi main_v8 main_v12
  let main_cst_4 : FVec F S_ .f32 := constant S_ .f32 0x00000000#32
  let main_v14 : FVec F S768 .f32 := broadcastInDim S768 ![] bcast_S_S768 main_cst_4
  let main_v15 : IVec S768 1 := cmpf .oeq main_arg2 main_v14
  let main_c_5 : IVec S_ 1 := constantI S_ 1 1#1
  fn_part1 (F := F) main_arg4 main_arg5 main_arg6 main_arg8 main_arg10 main_v13 main_v15 main_c_5
-- ==== Kernel.lean ====
abbrev S32x512x768 : Shape := ⟨3, ![32, 512, 768]⟩
abbrev S768x768 : Shape := ⟨2, ![768, 768]⟩
abbrev S768 : Shape := ⟨1, ![768]⟩
abbrev S768x3 : Shape := ⟨2, ![768, 3]⟩
abbrev S3 : Shape := ⟨1, ![3]⟩
abbrev S768x5 : Shape := ⟨2, ![768, 5]⟩
abbrev S5 : Shape := ⟨1, ![5]⟩
abbrev S1x128 : Shape := ⟨2, ![1, 128]⟩
abbrev S_ : Shape := ⟨0, ![]⟩
abbrev S768x125 : Shape := ⟨2, ![768, 125]⟩
abbrev S768x123 : Shape := ⟨2, ![768, 123]⟩
abbrev S768x256 : Shape := ⟨2, ![768, 256]⟩
abbrev S32x512x3 : Shape := ⟨3, ![32, 512, 3]⟩
abbrev S32x512x5 : Shape := ⟨3, ![32, 512, 5]⟩
abbrev S32x1x512 : Shape := ⟨3, ![32, 1, 512]⟩
abbrev S4x512x768 : Shape := ⟨3, ![4, 512, 768]⟩
abbrev S4x512x3 : Shape := ⟨3, ![4, 512, 3]⟩
abbrev S4x512x5 : Shape := ⟨3, ![4, 512, 5]⟩
abbrev S4x1x512 : Shape := ⟨3, ![4, 1, 512]⟩
abbrev S2048x768 : Shape := ⟨2, ![2048, 768]⟩
abbrev S768x128 : Shape := ⟨2, ![768, 128]⟩
abbrev S2048x128 : Shape := ⟨2, ![2048, 128]⟩
abbrev S2048x256 : Shape := ⟨2, ![2048, 256]⟩
abbrev S2048x3 : Shape := ⟨2, ![2048, 3]⟩
abbrev S2048x5 : Shape := ⟨2, ![2048, 5]⟩
abbrev S1x2048 : Shape := ⟨2, ![1, 2048]⟩
abbrev S4x2048 : Shape := ⟨2, ![4, 2048]⟩
abbrev S4x768 : Shape := ⟨2, ![4, 768]⟩
abbrev S2048 : Shape := ⟨1, ![2048]⟩
abbrev S1x512 : Shape := ⟨2, ![1, 512]⟩
abbrev S1 : Shape := ⟨1, ![1]⟩
abbrev S1x1 : Shape := ⟨2, ![1, 1]⟩
abbrev S1x1x512 : Shape := ⟨3, ![1, 1, 512]⟩

abbrev nBuf : Space → Nat
  | .hbm => 22
  | .vmem => 12
  | .smem => 0
  | _ => 0

abbrev bufTy : (tb : Table) → Fin (tcTables nBuf tb) → BufTy
  | .hbm, ⟨0, _⟩ => ⟨S32x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768x3, .f32⟩
  | .hbm, ⟨8, _⟩ => ⟨S3, .f32⟩
  | .hbm, ⟨9, _⟩ => ⟨S768x5, .f32⟩
  | .hbm, ⟨10, _⟩ => ⟨S5, .f32⟩
  | .hbm, ⟨11, _⟩ => ⟨S1x128, .bf16⟩
  | .hbm, ⟨12, _⟩ => ⟨S768x3, .bf16⟩
  | .hbm, ⟨13, _⟩ => ⟨S_, .bf16⟩
  | .hbm, ⟨14, _⟩ => ⟨S768x125, .bf16⟩
  | .hbm, ⟨15, _⟩ => ⟨S768x5, .bf16⟩
  | .hbm, ⟨16, _⟩ => ⟨S_, .bf16⟩
  | .hbm, ⟨17, _⟩ => ⟨S768x123, .bf16⟩
  | .hbm, ⟨18, _⟩ => ⟨S768x256, .bf16⟩
  | .hbm, ⟨19, _⟩ => ⟨S32x512x3, .f32⟩
  | .hbm, ⟨20, _⟩ => ⟨S32x512x5, .f32⟩
  | .hbm, ⟨21, _⟩ => ⟨S32x1x512, .f32⟩
  | .local _ .vmem, ⟨0, _⟩ => ⟨S4x512x768, .f32⟩
  | .local _ .vmem, ⟨1, _⟩ => ⟨S4x512x768, .f32⟩
  | .local _ .vmem, ⟨2, _⟩ => ⟨S768x768, .f32⟩
  | .local _ .vmem, ⟨3, _⟩ => ⟨S768x768, .f32⟩
  | .local _ .vmem, ⟨4, _⟩ => ⟨S768x256, .bf16⟩
  | .local _ .vmem, ⟨5, _⟩ => ⟨S1x128, .bf16⟩
  | .local _ .vmem, ⟨6, _⟩ => ⟨S4x512x3, .f32⟩
  | .local _ .vmem, ⟨7, _⟩ => ⟨S4x512x3, .f32⟩
  | .local _ .vmem, ⟨8, _⟩ => ⟨S4x512x5, .f32⟩
  | .local _ .vmem, ⟨9, _⟩ => ⟨S4x512x5, .f32⟩
  | .local _ .vmem, ⟨10, _⟩ => ⟨S4x1x512, .f32⟩
  | .local _ .vmem, ⟨11, _⟩ => ⟨S4x1x512, .f32⟩
  | _, _ => ⟨S32x512x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_cst : Ref sig .tc := ⟨.hbm, 11, rfl⟩
abbrev main_v0 : Ref sig .tc := ⟨.hbm, 12, rfl⟩
abbrev main_cst_0 : Ref sig .tc := ⟨.hbm, 13, rfl⟩
abbrev main_v1 : Ref sig .tc := ⟨.hbm, 14, rfl⟩
abbrev main_v2 : Ref sig .tc := ⟨.hbm, 15, rfl⟩
abbrev main_cst_1 : Ref sig .tc := ⟨.hbm, 16, rfl⟩
abbrev main_v3 : Ref sig .tc := ⟨.hbm, 17, rfl⟩
abbrev main_v4 : Ref sig .tc := ⟨.hbm, 18, rfl⟩
abbrev main_v5_0 : Ref sig .tc := ⟨.hbm, 19, rfl⟩
abbrev main_v5_1 : Ref sig .tc := ⟨.hbm, 20, rfl⟩
abbrev main_v5_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x512x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S768x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S4x512x3 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S4x512x5 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S4x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "inv_d" => some ((1 / 768 : ℝ) : EReal)
  | _ => none
-- ==== ReferenceIdeal.lean ====
abbrev S32x512x768 : Shape := ⟨3, ![32, 512, 768]⟩
abbrev S768x768 : Shape := ⟨2, ![768, 768]⟩
abbrev S768 : Shape := ⟨1, ![768]⟩
abbrev S768x3 : Shape := ⟨2, ![768, 3]⟩
abbrev S3 : Shape := ⟨1, ![3]⟩
abbrev S768x5 : Shape := ⟨2, ![768, 5]⟩
abbrev S5 : Shape := ⟨1, ![5]⟩
abbrev S1x1x768 : Shape := ⟨3, ![1, 1, 768]⟩
abbrev S_ : Shape := ⟨0, ![]⟩
abbrev S32x512 : Shape := ⟨2, ![32, 512]⟩
abbrev S32x512x1 : Shape := ⟨3, ![32, 512, 1]⟩
abbrev S32x512x3 : Shape := ⟨3, ![32, 512, 3]⟩
abbrev S1x1x3 : Shape := ⟨3, ![1, 1, 3]⟩
abbrev S32x512x5 : Shape := ⟨3, ![32, 512, 5]⟩
abbrev S1x1x5 : Shape := ⟨3, ![1, 1, 5]⟩
abbrev S32x512x512 : Shape := ⟨3, ![32, 512, 512]⟩
abbrev S32x1x512 : Shape := ⟨3, ![32, 1, 512]⟩
abbrev S32 : Shape := ⟨1, ![32]⟩
abbrev S32x1 : Shape := ⟨2, ![32, 1]⟩

abbrev nBuf : Space → Nat
  | .hbm => 108
  | .vmem => 0
  | .smem => 0
  | _ => 0

abbrev bufTy : (tb : Table) → Fin (tcTables nBuf tb) → BufTy
  | .hbm, ⟨0, _⟩ => ⟨S32x512x768, .f32⟩
  | .hbm, ⟨1, _⟩ => ⟨S768x768, .f32⟩
  | .hbm, ⟨2, _⟩ => ⟨S768, .f32⟩
  | .hbm, ⟨3, _⟩ => ⟨S768x768, .f32⟩
  | .hbm, ⟨4, _⟩ => ⟨S768, .f32⟩
  | .hbm, ⟨5, _⟩ => ⟨S768, .f32⟩
  | .hbm, ⟨6, _⟩ => ⟨S768, .f32⟩
  | .hbm, ⟨7, _⟩ => ⟨S768x3, .f32⟩
  | .hbm, ⟨8, _⟩ => ⟨S3, .f32⟩
  | .hbm, ⟨9, _⟩ => ⟨S768x5, .f32⟩
  | .hbm, ⟨10, _⟩ => ⟨S5, .f32⟩
  | .hbm, ⟨11, _⟩ => ⟨S32x512x768, .f32⟩
  | .hbm, ⟨12, _⟩ => ⟨S1x1x768, .f32⟩
  | .hbm, ⟨13, _⟩ => ⟨S32x512x768, .f32⟩
  | .hbm, ⟨14, _⟩ => ⟨S32x512x768, .f32⟩
  | .hbm, ⟨15, _⟩ => ⟨S_, .f32⟩
  | .hbm, ⟨16, _⟩ => ⟨S32x512x768, .f32⟩
  | .hbm, ⟨17, _⟩ => ⟨S32x512x768, .f32⟩
  | .hbm, ⟨18, _⟩ => ⟨S32x512x768, .f32⟩
  | .hbm, ⟨19, _⟩ => ⟨S1x1x768, .f32⟩
  | .hbm, ⟨20, _⟩ => ⟨S32x512x768, .f32⟩
  | .hbm, ⟨21, _⟩ => ⟨S32x512x768, .f32⟩
  | .hbm, ⟨22, _⟩ => ⟨S32x512x768, .f32⟩
  | .hbm, ⟨23, _⟩ => ⟨S_, .f32⟩
  | .hbm, ⟨24, _⟩ => ⟨S32x512, .f32⟩
  | .hbm, ⟨25, _⟩ => ⟨S32x512x1, .f32⟩
  | .hbm, ⟨26, _⟩ => ⟨S_, .f32⟩
  | .hbm, ⟨27, _⟩ => ⟨S32x512x1, .f32⟩
  | .hbm, ⟨28, _⟩ => ⟨S32x512x1, .f32⟩
  | .hbm, ⟨29, _⟩ => ⟨S32x512x768, .f32⟩
  | .hbm, ⟨30, _⟩ => ⟨S32x512x768, .f32⟩
  | .hbm, ⟨31, _⟩ => ⟨S32x512x768, .f32⟩
  | .hbm, ⟨32, _⟩ => ⟨S_, .f32⟩
  | .hbm, ⟨33, _⟩ => ⟨S32x512, .f32⟩
  | .hbm, ⟨34, _⟩ => ⟨S32x512x1, .f32⟩
  | .hbm, ⟨35, _⟩ => ⟨S_, .f32⟩
  | .hbm, ⟨36, _⟩ => ⟨S32x512x1, .f32⟩
  | .hbm, ⟨37, _⟩ => ⟨S32x512x1, .f32⟩
  | .hbm, ⟨38, _⟩ => ⟨S32x512x768, .f32⟩
  | .hbm, ⟨39, _⟩ => ⟨S32x512x768, .f32⟩
  | .hbm, ⟨40, _⟩ => ⟨S_, .f32⟩
  | .hbm, ⟨41, _⟩ => ⟨S32x512x1, .f32⟩
  | .hbm, ⟨42, _⟩ => ⟨S32x512x1, .f32⟩
  | .hbm, ⟨43, _⟩ => ⟨S32x512x1, .f32⟩
  | .hbm, ⟨44, _⟩ => ⟨S32x512x768, .f32⟩
  | .hbm, ⟨45, _⟩ => ⟨S32x512x768, .f32⟩
  | .hbm, ⟨46, _⟩ => ⟨S1x1x768, .f32⟩
  | .hbm, ⟨47, _⟩ => ⟨S32x512x768, .f32⟩
  | .hbm, ⟨48, _⟩ => ⟨S32x512x768, .f32⟩
  | .hbm, ⟨49, _⟩ => ⟨S1x1x768, .f32⟩
  | .hbm, ⟨50, _⟩ => ⟨S32x512x768, .f32⟩
  | .hbm, ⟨51, _⟩ => ⟨S32x512x768, .f32⟩
  | .hbm, ⟨52, _⟩ => ⟨S32x512x3, .f32⟩
  | .hbm, ⟨53, _⟩ => ⟨S1x1x3, .f32⟩
  | .hbm, ⟨54, _⟩ => ⟨S32x512x3, .f32⟩
  | .hbm, ⟨55, _⟩ => ⟨S32x512x3, .f32⟩
  | .hbm, ⟨56, _⟩ => ⟨S32x512x5, .f32⟩
  | .hbm, ⟨57, _⟩ => ⟨S1x1x5, .f32⟩
  | .hbm, ⟨58, _⟩ => ⟨S32x512x5, .f32⟩
  | .hbm, ⟨59, _⟩ => ⟨S32x512x5, .f32⟩
  | .hbm, ⟨60, _⟩ => ⟨S32x512x768, .f32⟩
  | .hbm, ⟨61, _⟩ => ⟨S_, .f32⟩
  | .hbm, ⟨62, _⟩ => ⟨S32x512, .f32⟩
  | .hbm, ⟨63, _⟩ => ⟨S32x512, .f32⟩
  | .hbm, ⟨64, _⟩ => ⟨S_, .f32⟩
  | .hbm, ⟨65, _⟩ => ⟨S32x512, .f32⟩
  | .hbm, ⟨66, _⟩ => ⟨S32x512, .f32⟩
  | .hbm, ⟨67, _⟩ => ⟨S_, .f32⟩
  | .hbm, ⟨68, _⟩ => ⟨S32x512, .f32⟩
  | .hbm, ⟨69, _⟩ => ⟨S32x512, .f32⟩
  | .hbm, ⟨70, _⟩ => ⟨S32x512, .f32⟩
  | .hbm, ⟨71, _⟩ => ⟨S32x512, .f32⟩
  | .hbm, ⟨72, _⟩ => ⟨S32x512x512, .f32⟩
  | .hbm, ⟨73, _⟩ => ⟨S32x512x1, .f32⟩
  | .hbm, ⟨74, _⟩ => ⟨S32x1x512, .f32⟩
  | .hbm, ⟨75, _⟩ => ⟨S32x512x512, .f32⟩
  | .hbm, ⟨76, _⟩ => ⟨S32x512x512, .f32⟩
  | .hbm, ⟨77, _⟩ => ⟨S32x512x512, .f32⟩
  | .hbm, ⟨78, _⟩ => ⟨S32x512x512, .f32⟩
  | .hbm, ⟨79, _⟩ => ⟨S_, .f32⟩
  | .hbm, ⟨80, _⟩ => ⟨S32x512, .f32⟩
  | .hbm, ⟨81, _⟩ => ⟨S_, .f32⟩
  | .hbm, ⟨82, _⟩ => ⟨S32x512, .f32⟩
  | .hbm, ⟨83, _⟩ => ⟨S32x512, .f32⟩
  | .hbm, ⟨84, _⟩ => ⟨S32x512, .f32⟩
  | .hbm, ⟨85, _⟩ => ⟨S32x512, .f32⟩
  | .hbm, ⟨86, _⟩ => ⟨S32x512, .f32⟩
  | .hbm, ⟨87, _⟩ => ⟨S_, .f32⟩
  | .hbm, ⟨88, _⟩ => ⟨S32x512, .f32⟩
  | .hbm, ⟨89, _⟩ => ⟨S32x512, .f32⟩
  | .hbm, ⟨90, _⟩ => ⟨S_, .f32⟩
  | .hbm, ⟨91, _⟩ => ⟨S32x512, .f32⟩
  | .hbm, ⟨92, _⟩ => ⟨S32x512, .f32⟩
  | .hbm, ⟨93, _⟩ => ⟨S_, .f32⟩
  | .hbm, ⟨94, _⟩ => ⟨S32, .f32⟩
  | .hbm, ⟨95, _⟩ => ⟨S_, .f32⟩
  | .hbm, ⟨96, _⟩ => ⟨S32, .f32⟩
  | .hbm, ⟨97, _⟩ => ⟨S32, .f32⟩
  | .hbm, ⟨98, _⟩ => ⟨S32x1, .f32⟩
  | .hbm, ⟨99, _⟩ => ⟨S32x512, .f32⟩
  | .hbm, ⟨100, _⟩ => ⟨S32x512, .f32⟩
  | .hbm, ⟨101, _⟩ => ⟨S32x512, .f32⟩
  | .hbm, ⟨102, _⟩ => ⟨S_, .f32⟩
  | .hbm, ⟨103, _⟩ => ⟨S32, .f32⟩
  | .hbm, ⟨104, _⟩ => ⟨S32x1, .f32⟩
  | .hbm, ⟨105, _⟩ => ⟨S32x512, .f32⟩
  | .hbm, ⟨106, _⟩ => ⟨S32x512, .f32⟩
  | .hbm, ⟨107, _⟩ => ⟨S32x1x512, .f32⟩
  | _, _ => ⟨S32x512x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst : Ref sig .tc := ⟨.hbm, 23, rfl⟩
abbrev main_v10 : Ref sig .tc := ⟨.hbm, 24, rfl⟩
abbrev main_v11 : Ref sig .tc := ⟨.hbm, 25, rfl⟩
abbrev main_cst_0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_1 : Ref sig .tc := ⟨.hbm, 32, rfl⟩
abbrev main_v17 : Ref sig .tc := ⟨.hbm, 33, rfl⟩
abbrev main_v18 : Ref sig .tc := ⟨.hbm, 34, rfl⟩
abbrev main_cst_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_cst_6 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_cst_7 : Ref sig .tc := ⟨.hbm, 79, rfl⟩
abbrev main_v58 : Ref sig .tc := ⟨.hbm, 80, rfl⟩
abbrev main_cst_8 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_9 : Ref sig .tc := ⟨.hbm, 87, rfl⟩
abbrev main_v64 : Ref sig .tc := ⟨.hbm, 88, rfl⟩
abbrev main_v65 : Ref sig .tc := ⟨.hbm, 89, rfl⟩
abbrev main_cst_10 : Ref sig .tc := ⟨.hbm, 90, rfl⟩
abbrev main_v66 : Ref sig .tc := ⟨.hbm, 91, rfl⟩
abbrev main_v67 : Ref sig .tc := ⟨.hbm, 92, rfl⟩
abbrev main_cst_11 : Ref sig .tc := ⟨.hbm, 93, rfl⟩
abbrev main_v68 : Ref sig .tc := ⟨.hbm, 94, rfl⟩
abbrev main_cst_12 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_13 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Proof.RowMath.lean ====
/- UNTRUSTED — the REAL-NUMBER mathematics of the layer, free of any program: one row's residual, LayerNorm and norm, one
   batch's attention weights, and the identities between the way the kernel writes them (the variance as a mean of squares
   less a squared mean; a row's sum of cosines through ONE weighted sum of rows) and the way the reference does. -/
module

public import Idealize.ShloMosaic.PureOps.Ideal

@[expose] public section

noncomputable section

namespace Cert.Attn

/-- The LayerNorm's epsilon, the real the pattern of `1e-5` denotes. -/
def eps : ℝ := 10995116 / 2 ^ 40

/-- The kernel's guard of a squared norm, the real the pattern of `1e-30` denotes. -/
def guard : ℝ := 10633824 / 2 ^ 123

theorem eps_pos : 0 < eps := by unfold eps; positivity
theorem guard_pos : 0 < guard := by unfold guard; positivity

/-- One row with the feed-forward result added: `e + relu(e·a)·b`, entry `d`. -/
def res (e : Fin 768 → ℝ) (a b : Fin 768 → Fin 768 → ℝ) (d : Fin 768) : ℝ :=
  e d + ∑ h, max (∑ k, e k * a k h) 0 * b h d

/-- A row's mean. -/
def mean (v : Fin 768 → ℝ) : ℝ := (∑ d, v d) * (1 / 768)

/-- A row less its mean, entry `d`. -/
def dev (v : Fin 768 → ℝ) (d : Fin 768) : ℝ := v d - mean v

/-- A row's variance. -/
def var (v : Fin 768 → ℝ) : ℝ := (∑ d, dev v d * dev v d) * (1 / 768)

/-- The reciprocal of the LayerNorm's root. -/
def rstd (v : Fin 768 → ℝ) : ℝ := (√(var v + eps))⁻¹

/-- The reciprocal of a centred row's guarded norm. -/
def rnorm (v : Fin 768 → ℝ) : ℝ := (√(var v * 768 + guard))⁻¹

/-- The mean cosine of row `s` with the batch's rows, as the kernel takes it: the rows, each divided by its norm, are summed
    once, and row `s` is multiplied with the sum. -/
def score (x : Fin 512 → Fin 768 → ℝ) (s : Fin 512) : ℝ :=
  (∑ d, (∑ k, rnorm (x k) * dev (x k) d) * dev (x s) d) * rnorm (x s) * (1 / 512)

/-- The sigmoid of minus the mean cosine. -/
def gate (x : Fin 512 → Fin 768 → ℝ) (s : Fin 512) : ℝ := 1 / (1 + Real.exp (score x s))

/-- The batch's attention weight of row `s`. -/
def weight (x : Fin 512 → Fin 768 → ℝ) (s : Fin 512) : ℝ := Real.exp (gate x s) / ∑ k, Real.exp (gate x k)

/-- The variance is nowhere negative. -/
theorem var_nonneg (v : Fin 768 → ℝ) : 0 ≤ var v :=
  mul_nonneg (Finset.sum_nonneg fun _ _ => mul_self_nonneg _) (by norm_num)

/-- The mean of the squares less the square of the mean is the variance. -/
theorem meanSq_sub (v : Fin 768 → ℝ) : (∑ d, v d * v d) * (1 / 768) - mean v * mean v = var v := by
  have hs : ∑ d, v d = 768 * mean v := by unfold mean; ring
  have hd : ∑ d, dev v d * dev v d = (∑ d, v d * v d) - 2 * mean v * (∑ d, v d) + 768 * (mean v * mean v) := by
    have : ∀ d, dev v d * dev v d = v d * v d - 2 * mean v * v d + mean v * mean v := fun d => by unfold dev; ring
    simp only [this, Finset.sum_add_distrib, Finset.sum_sub_distrib, ← Finset.mul_sum, Finset.sum_const, Finset.card_univ,
      Fintype.card_fin, nsmul_eq_mul]
    push_cast
    ring
  unfold var
  rw [hd, hs]
  ring

theorem var_eps_pos (v : Fin 768 → ℝ) : 0 < var v + eps := add_pos_of_nonneg_of_pos (var_nonneg v) eps_pos
theorem sqnorm_pos (v : Fin 768 → ℝ) : 0 < var v * 768 + guard :=
  add_pos_of_nonneg_of_pos (mul_nonneg (var_nonneg v) (by norm_num)) guard_pos
theorem rstd_pos (v : Fin 768 → ℝ) : 0 < rstd v := inv_pos.2 (Real.sqrt_pos.2 (var_eps_pos v))

/-- What the reference puts under a norm's root: the normalised row's squared length and the guard in its units. -/
theorem sqnorm_ref (v : Fin 768 → ℝ) :
    (∑ d, dev v d * rstd v * (dev v d * rstd v)) + guard * (1 / (var v + eps)) = (var v * 768 + guard) * (1 / (var v + eps)) := by
  have hr : rstd v * rstd v = 1 / (var v + eps) := by
    unfold rstd; rw [← mul_inv, Real.mul_self_sqrt (var_eps_pos v).le, one_div]
  have hs : ∑ d, dev v d * dev v d = var v * 768 := by unfold var; ring
  have : ∀ d, dev v d * rstd v * (dev v d * rstd v) = dev v d * dev v d * (rstd v * rstd v) := fun d => by ring
  simp only [this, ← Finset.sum_mul, hr, hs]
  ring

/-- The reference's norm of a normalised row. -/
def norm (v : Fin 768 → ℝ) : ℝ := √((var v * 768 + guard) * (1 / (var v + eps)))

theorem norm_pos (v : Fin 768 → ℝ) : 0 < norm v :=
  Real.sqrt_pos.2 (mul_pos (sqnorm_pos v) (one_div_pos.2 (var_eps_pos v)))

/-- A row's LayerNorm factor over its norm is the reciprocal of the centred row's norm: the factor cancels. -/
theorem rstd_div_norm (v : Fin 768 → ℝ) : rstd v * (norm v)⁻¹ = rnorm v := by
  have h1 := (Real.sqrt_pos.2 (var_eps_pos v)).ne'
  have h2 := (Real.sqrt_pos.2 (sqnorm_pos v)).ne'
  unfold rstd norm rnorm
  rw [Real.sqrt_mul (sqnorm_pos v).le, one_div, Real.sqrt_inv, mul_inv, inv_inv]
  field_simp

/-- One cosine as the reference writes it, by centred rows and reciprocal norms. -/
theorem cosine (u v : Fin 768 → ℝ) : (∑ d, dev u d * rstd u * (dev v d * rstd v)) * (1 / (norm u * norm v))
    = (∑ d, dev u d * dev v d) * (rnorm u * rnorm v) := by
  have : ∀ d, dev u d * rstd u * (dev v d * rstd v) = dev u d * dev v d * (rstd u * rstd v) := fun d => by ring
  simp only [this, ← Finset.sum_mul, ← rstd_div_norm, one_div, mul_inv]
  ring

/-- The mean of a row's cosines is the score: the sum over the rows goes inside the sum over the entries. -/
theorem score_eq (x : Fin 512 → Fin 768 → ℝ) (s : Fin 512) :
    (∑ k, (∑ d, dev (x s) d * rstd (x s) * (dev (x k) d * rstd (x k))) * (1 / (norm (x s) * norm (x k)))) * (1 / 512)
      = score x s := by
  simp only [cosine]
  unfold score
  congr 1
  simp only [Finset.sum_mul]
  rw [Finset.sum_comm]
  exact Finset.sum_congr rfl fun d _ => Finset.sum_congr rfl fun k _ => by ring

/-- The softmax does not depend on the number taken off every exponent. -/
theorem softmax_shift (x : Fin 512 → Fin 768 → ℝ) (M : ℝ) (s : Fin 512) :
    Real.exp (gate x s - M) * (1 / ∑ k, Real.exp (gate x k - M)) = weight x s := by
  unfold weight
  simp only [Real.exp_sub, ← Finset.sum_div]
  have h1 := Real.exp_pos M
  have h2 : 0 < ∑ k, Real.exp (gate x k) := Finset.sum_pos (fun k _ => Real.exp_pos _) ⟨0, Finset.mem_univ _⟩
  field_simp

end Cert.Attn

end
-- ==== Proof.Consts.lean ====
/- UNTRUSTED — the float CONSTANTS the two programs spell, as the reals their patterns denote, and sums of reals read as
   extended reals. -/
module

public import proofs.«01_k».proof.Proof.RowMath
public import Idealize.ShloMosaic.Lib.IdealHost

@[expose] public section

noncomputable section

namespace Cert.Attn

open Idealize.ShloMosaic

/-- The LayerNorm's `1e-5`. -/
theorem ofBits_eps : Ideal.ofBits .f32 0x3727C5AC#32 = ((eps : ℝ) : EReal) := by
  simp [Ideal.ofBits, Ideal.ieee, eps, -EReal.coe_mul]; norm_num

/-- The guard `1e-30`. -/
theorem ofBits_guard : Ideal.ofBits .f32 0x0DA24260#32 = ((guard : ℝ) : EReal) := by
  simp [Ideal.ofBits, Ideal.ieee, guard, -EReal.coe_mul]; norm_num

/-- `768.0`. -/
theorem ofBits_768 : Ideal.ofBits .f32 0x44400000#32 = ((768 : ℝ) : EReal) := by
  simp [Ideal.ofBits, Ideal.ieee, -EReal.coe_mul]; norm_num

/-- `512.0`. -/
theorem ofBits_512 : Ideal.ofBits .f32 0x44000000#32 = ((512 : ℝ) : EReal) := by
  simp [Ideal.ofBits, Ideal.ieee, -EReal.coe_mul]; norm_num

/-- `1/512`. -/
theorem ofBits_inv512 : Ideal.ofBits .f32 0x3B000000#32 = ((1 / 512 : ℝ) : EReal) := by
  simp [Ideal.ofBits, Ideal.ieee, -EReal.coe_mul]; norm_num

/-- `-∞`. -/
theorem ofBits_negInf : Ideal.ofBits .f32 0xFF800000#32 = (⊥ : EReal) := by
  simp [Ideal.ofBits, Ideal.ieee]

/-- `+∞`. -/
theorem ofBits_posInf : Ideal.ofBits .f32 0x7F800000#32 = (⊤ : EReal) := by
  simp [Ideal.ofBits, Ideal.ieee]

/-- A sum of reals, as an extended real, is the sum of the terms as extended reals. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- The greater of two reals, as an extended real. -/
theorem coe_max (x y : ℝ) : max (x : EReal) (y : EReal) = ((max x y : ℝ) : EReal) :=
  (EReal.coe_strictMono.monotone.map_max).symm

/-- A nonnegative real factor goes inside a sum of arbitrary extended reals. -/
theorem sum_mul_coe {ι : Type} (s : Finset ι) (f : ι → EReal) {r : ℝ} (hr : 0 ≤ r) :
    (∑ i ∈ s, f i) * (r : EReal) = ∑ i ∈ s, f i * (r : EReal) := by
  classical
  induction s using Finset.induction_on with
  | empty => simp
  | insert a s ha ih =>
    rw [Finset.sum_insert ha, Finset.sum_insert ha, ← ih,
      EReal.right_distrib_of_nonneg_of_ne_top (EReal.coe_nonneg.2 hr) (EReal.coe_ne_top r)]

/-- The maximum of finitely many reals, taken from `-∞` on, is a real as soon as there is one of them. -/
theorem fold_max_coe {ι : Type} (f : ι → EReal) (hf : ∀ k, ∃ r : ℝ, f k = ((r : ℝ) : EReal)) (s : Finset ι) :
    s.Nonempty → ∃ M : ℝ, s.fold max (⊥ : EReal) f = ((M : ℝ) : EReal) := by
  classical
  induction s using Finset.induction_on with
  | empty => exact fun h => absurd h Finset.not_nonempty_empty
  | insert k s hk ih =>
    intro _
    obtain ⟨r, hr⟩ := hf k
    rw [Finset.fold_insert hk, hr]
    rcases s.eq_empty_or_nonempty with rfl | hs
    · exact ⟨r, by simp⟩
    · obtain ⟨M, hM⟩ := ih hs
      exact ⟨max r M, by rw [hM, coe_max]⟩

end Cert.Attn

end
-- ==== Proof.Block.lean ====
/- UNTRUSTED — what ONE grid point's block computes up to the normalised rows, where the block of embeddings and the two weight
   matrices hold reals: the rows with the feed-forward result added, their means, variances and deviations, and the product
   with the two projections. -/
module

public import proofs.«01_k».proof.Proof.Gen.KernelIdeal.Skeleton
public import proofs.«01_k».proof.Proof.Consts
public import Idealize.ShloMosaic.Lib.Pipeline.ValueKit

@[expose] public section

set_option maxRecDepth 16384

noncomputable section

namespace Cert.Attn.Block

open Idealize.ShloMosaic Idealize.ShloMosaic.TcCoe Idealize.SL.Sem
open Cert.KernelIdeal Cert.KernelIdeal.Gen

/-- The name `inv_d` is the real `1/768`. -/
theorem inv_d : (Named.named κ "inv_d" 0x3AAAAAAB#32 : Ideal .f32) = ((1 / 768 : ℝ) : EReal) :=
  IdealRules.named_const.ideal_named_scalar _ _ _ _ rfl

variable {P0 : FVec Ideal S4x512x768 .f32} {P1 P2 : FVec Ideal S768x768 .f32}
variable {e : Fin 4 → Fin 512 → Fin 768 → ℝ} {a b : Fin 768 → Fin 768 → ℝ}

/-- Row `r` of the block's 2048 rows, the feed-forward result added: row `r % 512` of the block's batch `r / 512`. -/
abbrev row (e : Fin 4 → Fin 512 → Fin 768 → ℝ) (a b : Fin 768 → Fin 768 → ℝ) (r : Fin 2048) : Fin 768 → ℝ :=
  res (e ⟨r / 512, by omega⟩ ⟨r % 512, by omega⟩) a b

/-- Row `512 i + s` of the block is row `s` of its batch `i`. -/
theorem row_at (e : Fin 4 → Fin 512 → Fin 768 → ℝ) (a b : Fin 768 → Fin 768 → ℝ) (i : Fin 4) (s : Fin 512)
    (hr : (i : ℕ) * 512 + s < 2048) : row e a b ⟨i * 512 + s, hr⟩ = res (e i s) a b := by
  have hq : ((i : ℕ) * 512 + s) / 512 = i := by omega
  have hm : ((i : ℕ) * 512 + s) % 512 = s := by omega
  simp only [row, hq, hm, Fin.eta]

/-- The three operands hold the reals `e`, `a`, `b`. -/
structure Holds (P0 : FVec Ideal S4x512x768 .f32) (P1 P2 : FVec Ideal S768x768 .f32)
    (e : Fin 4 → Fin 512 → Fin 768 → ℝ) (a b : Fin 768 → Fin 768 → ℝ) : Prop where
  emb : ∀ i s d, P0 (ix3 i s d) = ((e i s d : ℝ) : EReal)
  w1 : ∀ i j, P1 (ix2 i j) = ((a i j : ℝ) : EReal)
  w2 : ∀ i j, P2 (ix2 i j) = ((b i j : ℝ) : EReal)

/-- The residual rows. -/
theorem pay3_at (h : Holds P0 P1 P2 e a b) (r : Fin 2048) (d : Fin 768) :
    k0_pay3 (F := Ideal) P0 P1 P2 (ix2 r d) = ((row e a b r d : ℝ) : EReal) := by
  pointwise [k0_pay3]
  simp only [h.emb, h.w1, h.w2, ← EReal.coe_mul, coe_sum, ← EReal.coe_zero, coe_max, ← EReal.coe_add]
  rfl

/-- Each of a row's 128 lanes holds its mean. -/
theorem pay6_at (h : Holds P0 P1 P2 e a b) (r : Fin 2048) (l : Fin 128) :
    k0_pay6 (F := Ideal) P0 P1 P2 (ix2 r l) = ((mean (row e a b r) : ℝ) : EReal) := by
  pointwise [k0_pay6, k0_pay5, k0_pay4]
  simp only [pay3_at h, inv_d, coe_sum, ← EReal.coe_mul]
  rfl

/-- Each of a row's 128 lanes holds its variance. -/
theorem pay7_at (h : Holds P0 P1 P2 e a b) (r : Fin 2048) (l : Fin 128) :
    k0_pay7 (F := Ideal) P0 P1 P2 (ix2 r l) = ((var (row e a b r) : ℝ) : EReal) := by
  pointwise [k0_pay7, k0_pay5, k0_pay4]
  simp only [pay3_at h, pay6_at h, inv_d, coe_sum, ← EReal.coe_mul, ← EReal.coe_sub, meanSq_sub]

/-- The centred rows: the six copies of the 128 lanes put side by side hold the row's mean in every column. -/
theorem pay8_at (h : Holds P0 P1 P2 e a b) (r : Fin 2048) (d : Fin 768) :
    k0_pay8 (F := Ideal) P0 P1 P2 (ix2 r d) = ((dev (row e a b r) d : ℝ) : EReal) := by
  pointwise [k0_pay8]
  simp only [pay3_at h, pay6_at h, dite_eq_ite, ite_self, ← EReal.coe_sub]
  rfl

/-- The centred rows times the two projections, each row times the reciprocal of its LayerNorm root. -/
theorem pay9_at (h : Holds P0 P1 P2 e a b) (P3 : FVec Ideal S768x256 .bf16) (r : Fin 2048) (j : Fin 256) :
    k0_pay9 (F := Ideal) P0 P1 P2 P3 (ix2 r j)
      = (∑ d : Fin 768, ((dev (row e a b r) d : ℝ) : EReal) * P3 (ix2 d j)) * ((rstd (row e a b r) : ℝ) : EReal) := by
  pointwise [k0_pay9]
  have hp := var_eps_pos (row e a b r)
  simp only [pay8_at h, pay7_at h, ofBits_eps, ← EReal.coe_add, Ideal.rsqrt_coe, hp.not_gt, hp.ne', ↓reduceIte, dite_eq_ite,
    ite_self]
  rfl

/-- The first result's block: columns 0 to 2 of the products. -/
theorem pay10_at (h : Holds P0 P1 P2 e a b) (P3 : FVec Ideal S768x256 .bf16) (i : Fin 4) (s : Fin 512) (j : Fin 3) :
    k0_pay10 (F := Ideal) P0 P1 P2 P3 (ix3 i s j)
      = (∑ d, ((dev (res (e i s) a b) d : ℝ) : EReal) * P3 (ix2 d ⟨j, by omega⟩)) * ((rstd (res (e i s) a b) : ℝ) : EReal) := by
  pointwise [k0_pay10]
  rw [pay9_at h, row_at]

/-- The second result's block: columns 128 to 132 of the products. -/
theorem pay11_at (h : Holds P0 P1 P2 e a b) (P3 : FVec Ideal S768x256 .bf16) (i : Fin 4) (s : Fin 512) (j : Fin 5) :
    k0_pay11 (F := Ideal) (k0_pay9 P0 P1 P2 P3) (ix3 i s j)
      = (∑ d, ((dev (res (e i s) a b) d : ℝ) : EReal) * P3 (ix2 d ⟨128 + j, by omega⟩)) * ((rstd (res (e i s) a b) : ℝ) : EReal) := by
  pointwise [k0_pay11]
  rw [pay9_at h, row_at]

end Cert.Attn.Block

end
-- ==== Proof.Weights.lean ====
/- UNTRUSTED — what ONE grid point's block computes of the attention weights: the mask of a batch's rows, the reciprocal norms,
   and the exponential of the sigmoid of minus a row's mean cosine. -/
module

public import proofs.«01_k».proof.Proof.Block

@[expose] public section

set_option maxRecDepth 16384

noncomputable section

namespace Cert.Attn.Block

open Idealize.ShloMosaic Idealize.ShloMosaic.TcCoe Idealize.SL.Sem
open Cert.KernelIdeal Cert.KernelIdeal.Gen

/-- The mask at batch `g` and row `r`: set exactly where `r` is one of the batch's 512 rows. -/
theorem pay13_at (g : Fin 4) (r : Fin 2048) :
    k0_pay13 (ix2 g r) = if (r : ℕ) / 512 = (g : ℕ) then 1#1 else 0#1 := by
  pointwise [k0_pay13]
  revert g r
  decide +kernel

/-- A selection on a decided bit is the selection on what decides it. -/
theorem select_ite {α : Type} (p : Prop) [Decidable p] (x y : α) :
    Scalar.select (if p then 1#1 else 0#1) x y = if p then x else y := by
  by_cases h : p <;> simp [h, Scalar.select]

/-- The reciprocal norms, one per row: the one-hot operand picks one lane of the variance. -/
theorem pay12_at (v : FVec Ideal S2048x128 .f32) (P3 : FVec Ideal S1x128 .bf16) (x : Fin 2048 → Fin 768 → ℝ)
    (hv : ∀ r l, v (ix2 r l) = ((var (x r) : ℝ) : EReal)) (hP : ∀ l : Fin 128, P3 (ix2 0 l) = if l = 0 then 1 else 0)
    (r : Fin 2048) : k0_pay12 (F := Ideal) v P3 (ix2 0 r) = ((rnorm (x r) : ℝ) : EReal) := by
  pointwise [k0_pay12]
  have hp := sqnorm_pos (x r)
  simp only [hv, hP, ite_mul, one_mul, zero_mul, Finset.sum_ite_eq', Finset.mem_univ, ↓reduceIte, ofBits_768, ofBits_guard,
    ← EReal.coe_mul, ← EReal.coe_add, Ideal.rsqrt_coe, hp.not_gt, hp.ne']
  rfl

/-- The exponential of row `s` of batch `g`, from the centred rows and their reciprocal norms. -/
theorem pay16_at (v : FVec Ideal S2048x768 .bf16) (w : FVec Ideal S1x2048 .f32) (x : Fin 4 → Fin 512 → Fin 768 → ℝ)
    (hv : ∀ r d, v (ix2 r d) = ((dev (x ⟨r / 512, by omega⟩ ⟨r % 512, by omega⟩) d : ℝ) : EReal))
    (hw : ∀ r, w (ix2 0 r) = ((rnorm (x ⟨r / 512, by omega⟩ ⟨r % 512, by omega⟩) : ℝ) : EReal))
    (g : Fin 4) (s : Fin 512) (r : Fin 2048) (hr : (r : ℕ) = g * 512 + s) :
    k0_pay16 (F := Ideal) v w k0_pay13 k0_pay14 k0_pay15 (ix2 0 r) = ((Real.exp (gate (x g) s) : ℝ) : EReal) := by
  have hg : (r : ℕ) / 512 = g := by omega
  have hs : (r : ℕ) % 512 = s := by omega
  have hq (i : Fin 4) (t : Fin 512) : ((i : ℕ) * 512 + t) / 512 = i := by omega
  have hm (i : Fin 4) (t : Fin 512) : ((i : ℕ) * 512 + t) % 512 = t := by omega
  have hpos : (1 + Real.exp (score (x g) s)) ≠ 0 := (add_pos one_pos (Real.exp_pos _)).ne'
  pointwise [k0_pay16, k0_pay14, k0_pay15]
  simp only [pay13_at, select_ite, hv, hw, Fin.sum_univ_tiles 4 512 rfl, hq, hm, hg, hs, Fin.val_inj, Fin.eta,
    Finset.sum_ite_eq, Finset.sum_ite_eq', Finset.sum_ite_irrel, Finset.sum_const_zero, Finset.mem_univ, ↓reduceIte, ofBits_inv512, coe_sum, ← EReal.coe_mul, Ideal.exp_coe]
  change Ideal.exp (Ideal.div 1 (1 + ((Real.exp (score (x g) s) : ℝ) : EReal))) = _
  rw [← EReal.coe_one, ← EReal.coe_add, Ideal.div_coe hpos, ← EReal.coe_mul, one_mul, Ideal.exp_coe]
  rfl

/-- Exponentials divided by their sum are the attention weights. -/
theorem ratio (x : Fin 512 → Fin 768 → ℝ) (s : Fin 512) (u : EReal) (f : Fin 512 → EReal)
    (hu : u = ((Real.exp (gate x s) : ℝ) : EReal)) (hf : ∀ k, f k = ((Real.exp (gate x k) : ℝ) : EReal)) :
    Ideal.div u (∑ k, f k) = ((weight x s : ℝ) : EReal) := by
  have h : (∑ k, Real.exp (gate x k)) ≠ 0 := (Finset.sum_pos (fun k _ => Real.exp_pos _) ⟨0, Finset.mem_univ _⟩).ne'
  simp only [hu, hf, coe_sum]
  rw [Ideal.div_coe h, ← EReal.coe_mul, mul_one_div]
  rfl

variable {P0 : FVec Ideal S4x512x768 .f32} {P1 P2 : FVec Ideal S768x768 .f32} {P4 : FVec Ideal S1x128 .bf16}
variable {e : Fin 4 → Fin 512 → Fin 768 → ℝ} {a b : Fin 768 → Fin 768 → ℝ}

/-- The exponentials, of the block's own operands: row `s` of batch `g` is row `512 g + s` of the block. -/
theorem exp_at (h : Holds P0 P1 P2 e a b) (hP : ∀ l : Fin 128, P4 (ix2 0 l) = if l = 0 then 1 else 0)
    (g : Fin 4) (s : Fin 512) (r : Fin 2048) (hr : (r : ℕ) = g * 512 + s) :
    k0_pay16 (F := Ideal) (k0_pay8 P0 P1 P2) (k0_pay12 (k0_pay7 P0 P1 P2) P4) k0_pay13 k0_pay14 k0_pay15 (ix2 0 r)
      = ((Real.exp (gate (fun k => res (e g k) a b) s) : ℝ) : EReal) :=
  pay16_at _ _ (fun g k => res (e g k) a b) (pay8_at h) (pay12_at _ _ (row e a b) (pay7_at h) hP) g s r hr

/-- What is stored for batch 0. -/
theorem pay17_at (h : Holds P0 P1 P2 e a b) (hP : ∀ l : Fin 128, P4 (ix2 0 l) = if l = 0 then 1 else 0) (s : Fin 512) :
    k0_pay17 (F := Ideal) (k0_pay8 P0 P1 P2) (k0_pay12 (k0_pay7 P0 P1 P2) P4) k0_pay13 k0_pay14 k0_pay15 (ix3 0 0 s)
      = ((weight (fun k => res (e 0 k) a b) s : ℝ) : EReal) := by
  pointwise [k0_pay17]
  exact ratio _ s _ _ (exp_at h hP 0 s _ (by simp)) fun k => exp_at h hP 0 k _ (by simp)

/-- What is stored for batch 1. -/
theorem pay18_at (h : Holds P0 P1 P2 e a b) (hP : ∀ l : Fin 128, P4 (ix2 0 l) = if l = 0 then 1 else 0) (s : Fin 512) :
    k0_pay18 (F := Ideal) (k0_pay8 P0 P1 P2) (k0_pay12 (k0_pay7 P0 P1 P2) P4) k0_pay13 k0_pay14 k0_pay15 (ix3 0 0 s)
      = ((weight (fun k => res (e 1 k) a b) s : ℝ) : EReal) := by
  pointwise [k0_pay18]
  exact ratio _ s _ _ (exp_at h hP 1 s _ (by simp)) fun k => exp_at h hP 1 k _ (by simp)

/-- What is stored for batch 2. -/
theorem pay19_at (h : Holds P0 P1 P2 e a b) (hP : ∀ l : Fin 128, P4 (ix2 0 l) = if l = 0 then 1 else 0) (s : Fin 512) :
    k0_pay1 (F := Ideal) (k0_pay19 (k0_pay8 P0 P1 P2) (k0_pay12 (k0_pay7 P0 P1 P2) P4) k0_pay13 k0_pay14 k0_pay15) (ix3 0 0 s)
      = ((weight (fun k => res (e 2 k) a b) s : ℝ) : EReal) := by
  pointwise [k0_pay1, k0_pay19]
  exact ratio _ s _ _ (exp_at h hP 2 s _ (by simp)) fun k => exp_at h hP 2 k _ (by simp)

/-- What is stored for batch 3. -/
theorem pay2_at (h : Holds P0 P1 P2 e a b) (hP : ∀ l : Fin 128, P4 (ix2 0 l) = if l = 0 then 1 else 0) (s : Fin 512) :
    k0_pay2 (F := Ideal) (k0_pay16 (k0_pay8 P0 P1 P2) (k0_pay12 (k0_pay7 P0 P1 P2) P4) k0_pay13 k0_pay14 k0_pay15) (ix3 0 0 s)
      = ((weight (fun k => res (e 3 k) a b) s : ℝ) : EReal) := by
  pointwise [k0_pay2]
  exact ratio _ s _ _ (exp_at h hP 3 s _ (by simp)) fun k => exp_at h hP 3 k _ (by simp)

end Cert.Attn.Block

end
-- ==== Proof.Spec.lean ====
/- UNTRUSTED — what the three results ARE, as functions of the argument arrays: each batch's rows with the feed-forward result
   added, normalised and projected, and its attention weights. -/
module

public import proofs.«01_k».proof.Proof.Consts
public import Idealize.ShloMosaic.Lib.Pointwise

@[expose] public section

noncomputable section

namespace Cert.Attn

open Idealize.ShloMosaic Idealize.ShloMosaic.TcCoe

/-- The reals the embeddings and the two weight matrices hold. -/
structure Reals where
  e : Fin 32 → Fin 512 → Fin 768 → ℝ
  a : Fin 768 → Fin 768 → ℝ
  b : Fin 768 → Fin 768 → ℝ

/-- The rows of batch `i`, the feed-forward result added. -/
def Reals.x (R : Reals) (i : Fin 32) (s : Fin 512) : Fin 768 → ℝ := res (R.e i s) R.a R.b

/-- The three arrays hold those reals. -/
structure Reals.Hold (R : Reals) (X : FVec Ideal ⟨3, ![32, 512, 768]⟩ .f32) (W1 W2 : FVec Ideal ⟨2, ![768, 768]⟩ .f32) : Prop where
  emb : ∀ i s d, X (ix3 i s d) = ((R.e i s d : ℝ) : EReal)
  w1 : ∀ i j, W1 (ix2 i j) = ((R.a i j : ℝ) : EReal)
  w2 : ∀ i j, W2 (ix2 i j) = ((R.b i j : ℝ) : EReal)

/-- The normalised rows times a projection of `n` columns (which may hold any extended reals), at an element. -/
def Reals.proj (R : Reals) {n : ℕ} (W : FVec Ideal ⟨2, ![768, n]⟩ .f32) (i : Fin 32) (s : Fin 512) (j : Fin n) : EReal :=
  (∑ d : Fin 768, ((dev (R.x i s) d : ℝ) : EReal) * W (ix2 d j)) * ((rstd (R.x i s) : ℝ) : EReal)

/-- The projected array. -/
def Reals.out (R : Reals) {n : ℕ} (W : FVec Ideal ⟨2, ![768, n]⟩ .f32) : FVec Ideal ⟨3, ![32, 512, n]⟩ .f32 :=
  fun y => R.proj W (y 0) (y 1) (y 2)

/-- The array of attention weights. -/
def Reals.weights (R : Reals) : FVec Ideal ⟨3, ![32, 1, 512]⟩ .f32 :=
  fun y => ((weight (R.x (y 0)) (y 2) : ℝ) : EReal)

end Cert.Attn

end
-- ==== Proof.Arrays.lean ====
/- UNTRUSTED — what the kernel's three result ARRAYS hold after the run: at every grid point the block's mathematics
   (Proof/Block.lean, Proof/Weights.lean), at the four batches the point's blocks are of. -/
module

public import proofs.«01_k».proof.Proof.Gen.KernelIdeal.Frame
public import proofs.«01_k».proof.Proof.Weights
public import proofs.«01_k».proof.Proof.Spec

@[expose] public section

set_option maxRecDepth 16384

noncomputable section

namespace Cert.Attn.Kernel

open Idealize.ShloMosaic Idealize.ShloMosaic.TcCoe Idealize.SL.Sem
open Idealize.ShloMosaic.Pipeline (Dat)
open Cert.KernelIdeal Cert.KernelIdeal.Gen

variable (m : (ℓ : Loc nD τ sig) → Buf (Elt Ideal) ℓ)

/-- The windows' block indices: the embeddings and the three results move with the point, the other operands stay. -/
theorem idx : ∀ t : Fin cfg0.N, win0_0.index t = ![t.val, 0, 0] ∧ win0_1.index t = ![0, 0] ∧ win0_2.index t = ![0, 0]
    ∧ win0_3.index t = ![0, 0] ∧ win0_4.index t = ![0, 0] ∧ win0_5.index t = ![t.val, 0, 0] ∧ win0_6.index t = ![t.val, 0, 0]
    ∧ win0_7.index t = ![t.val, 0, 0] :=
  (by decide +kernel : ∀ t : Fin grid0.N, _)

/-- Batch `i` of point `t`'s block is batch `4 t + i`. -/
abbrev batch (t : Fin cfg0.N) (i : Fin 4) : Fin 32 :=
  ⟨4 * t.val + i.val, by have h : t.val < 8 := lt_of_lt_of_eq t.isLt N_0; omega⟩

/-- The one-hot table: the bits of one at lane 0, of zero at every other lane. -/
theorem lit0_at (l : Fin 128) : lit0 (S1x128.rowMajor (ix2 0 l)) = if l = 0 then 0x3F80#16 else 0x0000#16 := by
  revert l
  decide +kernel

/-- The one-hot operand's block holds one at lane 0 and zero at every other lane. -/
theorem onehot (c : Dev nD) (t : Fin cfg0.N) (l : Fin 128) :
    (show EReal from iblk m c 4 t (ix2 0 l)) = if l = 0 then 1 else 0 := by
  have h : (show EReal from V m c main_cst (ix2 0 l)) = if l = 0 then 1 else 0 := by
    entry_read
    change Ideal.ofBits .bf16 (lit0 (S1x128.rowMajor (ix2 0 l))) = _
    rw [lit0_at]
    split
    · exact Ideal.ofBits_one_bf16
    · exact Ideal.ofBits_zero_bf16
  rw [← h]
  blk_point [iblk, idx t]

/-- The packed projection: the two projections, each followed by zero columns up to a multiple of 128. -/
def packed (A : FVec Ideal S768x3 .bf16) (Z : FVec Ideal S768x125 .bf16) (B : FVec Ideal S768x5 .bf16) (Z' : FVec Ideal S768x123 .bf16) :
    FVec Ideal S768x256 .bf16 :=
  concatenate S768x256 1 [⟨S768x3, A⟩, ⟨S768x125, Z⟩, ⟨S768x5, B⟩, ⟨S768x123, Z'⟩] concatenates_S768x3_S768x125_S768x5_S768x123_S768x256_d1

/-- Columns 0 to 2 of the packed projection are the first one's. -/
theorem packed_left (A : FVec Ideal S768x3 .bf16) (Z : FVec Ideal S768x125 .bf16) (B : FVec Ideal S768x5 .bf16) (Z' : FVec Ideal S768x123 .bf16)
    (d : Fin 768) (j : Fin 3) : packed A Z B Z' (ix2 d ⟨j, by omega⟩) = A (ix2 d j) := by
  pointwise [packed]

/-- Columns 128 to 132 of the packed projection are the second one's. -/
theorem packed_right (A : FVec Ideal S768x3 .bf16) (Z : FVec Ideal S768x125 .bf16) (B : FVec Ideal S768x5 .bf16) (Z' : FVec Ideal S768x123 .bf16)
    (d : Fin 768) (j : Fin 5) : packed A Z B Z' (ix2 d ⟨128 + j, by omega⟩) = B (ix2 d j) := by
  pointwise [packed]
  rw [dif_neg (by omega), dif_neg (by omega), dif_pos (by omega)]
  blk_ext

/-- The kernel's fourth operand is the packed projection of the two projection arguments. -/
theorem operand (c : Dev nD) : ∃ Z Z', V m c main_v4 = packed (m ((c : Thread nD τ).loc main_arg7)) Z (m ((c : Thread nD τ).loc main_arg9)) Z' := by
  unfold V
  after_results
  exact ⟨_, _, rfl⟩

/-- Columns 0 to 2 of the operand's block are the first projection's. -/
theorem packed_y (c : Dev nD) (t : Fin cfg0.N) (d : Fin 768) (j : Fin 3) :
    (show EReal from iblk m c 3 t (ix2 d ⟨j, by omega⟩)) = m ((c : Thread nD τ).loc main_arg7) (ix2 d j) := by
  obtain ⟨Z, Z', h⟩ := operand m c
  refine Eq.trans ?_ (packed_left _ Z (m ((c : Thread nD τ).loc main_arg9)) Z' d j)
  rw [← h]
  blk_point [iblk, idx t]

/-- Columns 128 to 132 of the operand's block are the second projection's. -/
theorem packed_z (c : Dev nD) (t : Fin cfg0.N) (d : Fin 768) (j : Fin 5) :
    (show EReal from iblk m c 3 t (ix2 d ⟨128 + j, by omega⟩)) = m ((c : Thread nD τ).loc main_arg9) (ix2 d j) := by
  obtain ⟨Z, Z', h⟩ := operand m c
  refine Eq.trans ?_ (packed_right (m ((c : Thread nD τ).loc main_arg7)) Z _ Z' d j)
  rw [← h]
  blk_point [iblk, idx t]

variable {m}

/-- At point `t` the blocks of the embeddings and the weights hold the reals of the point's four batches. -/
theorem holds {R : Reals} {c : Dev nD} (h : R.Hold (m ((c : Thread nD τ).loc main_arg0)) (m ((c : Thread nD τ).loc main_arg1)) (m ((c : Thread nD τ).loc main_arg3)))
    (t : Fin cfg0.N) : Block.Holds (iblk m c 0 t) (iblk m c 1 t) (iblk m c 2 t) (fun i s d => R.e (batch t i) s d) R.a R.b where
  emb i s d := by
    rw [← h.emb]
    blk_point [iblk, V_main_arg0, idx t]
  w1 i j := by
    rw [← h.w1]
    blk_point [iblk, V_main_arg1, idx t]
  w2 i j := by
    rw [← h.w2]
    blk_point [iblk, V_main_arg3, idx t]

/-- The first result's block at a point, element by element. -/
theorem point5 {R : Reals} {c : Dev nD} (h : R.Hold (m ((c : Thread nD τ).loc main_arg0)) (m ((c : Thread nD τ).loc main_arg1)) (m ((c : Thread nD τ).loc main_arg3)))
    (t : Fin cfg0.N) (i : Fin 4) (s : Fin 512) (j : Fin 3) :
    k0_pay10 (F := Ideal) (iblk m c 0 t) (iblk m c 1 t) (iblk m c 2 t) (iblk m c 3 t) (ix3 i s j)
      = R.proj (m ((c : Thread nD τ).loc main_arg7)) (batch t i) s j := by
  rw [Block.pay10_at (holds h t)]
  unfold Reals.proj
  congr 1
  refine Finset.sum_congr rfl fun d _ => ?_
  exact congrArg _ (packed_y m c t d j)

/-- The first result's array after the run. -/
theorem final5 {R : Reals} {c : Dev nD} (h : R.Hold (m ((c : Thread nD τ).loc main_arg0)) (m ((c : Thread nD τ).loc main_arg1)) (m ((c : Thread nD τ).loc main_arg3))) :
    (dats m 0 c).arrAt 5 (cfgs 0).N = R.out (m ((c : Thread nD τ).loc main_arg7)) := by
  refine (dats m 0 c).arrAt_eq_of_covers 5 _ (by decide +kernel) fun t _ y => ?_
  blk_simp
  rw [after0_5]
  frame_out
  have e : ((View.whole main_v5_0).slice (win0_5.rect t)).emb y = ix3 (batch t (y 0)) (y 1) (y 2) := by blk_ext [idx t]
  rw [e]
  exact (congrArg _ (eq_ix3 y)).trans (point5 h t (y 0) (y 1) (y 2))

/-- The second result's block at a point, element by element. -/
theorem point6 {R : Reals} {c : Dev nD} (h : R.Hold (m ((c : Thread nD τ).loc main_arg0)) (m ((c : Thread nD τ).loc main_arg1)) (m ((c : Thread nD τ).loc main_arg3)))
    (t : Fin cfg0.N) (i : Fin 4) (s : Fin 512) (j : Fin 5) :
    k0_pay11 (F := Ideal) (k0_pay9 (iblk m c 0 t) (iblk m c 1 t) (iblk m c 2 t) (iblk m c 3 t)) (ix3 i s j)
      = R.proj (m ((c : Thread nD τ).loc main_arg9)) (batch t i) s j := by
  rw [Block.pay11_at (holds h t)]
  unfold Reals.proj
  congr 1
  refine Finset.sum_congr rfl fun d _ => ?_
  exact congrArg _ (packed_z m c t d j)

/-- The second result's array after the run. -/
theorem final6 {R : Reals} {c : Dev nD} (h : R.Hold (m ((c : Thread nD τ).loc main_arg0)) (m ((c : Thread nD τ).loc main_arg1)) (m ((c : Thread nD τ).loc main_arg3))) :
    (dats m 0 c).arrAt 6 (cfgs 0).N = R.out (m ((c : Thread nD τ).loc main_arg9)) := by
  refine (dats m 0 c).arrAt_eq_of_covers 6 _ (by decide +kernel) fun t _ y => ?_
  blk_simp
  rw [after0_6]
  frame_out
  have e : ((View.whole main_v5_1).slice (win0_6.rect t)).emb y = ix3 (batch t (y 0)) (y 1) (y 2) := by blk_ext [idx t]
  rw [e]
  exact (congrArg _ (eq_ix3 y)).trans (point6 h t (y 0) (y 1) (y 2))

/-- The weights of the batch that the block's row `g` is of. -/
theorem weights_at {R : Reals} {t : Fin cfg0.N} {y : S4x1x512.Idx} (g : Fin 4) (h : (y 0).val = g.val) :
    ((weight (fun k => res (R.e (batch t g) k) R.a R.b) (y 2) : ℝ) : EReal) = R.weights (ix3 (batch t (y 0)) (y 1) (y 2)) := by
  obtain rfl : y 0 = g := Fin.ext h
  rfl

/-- The third result's block at a point: each of its four batches' row is one of the four values stored. -/
theorem point7 {R : Reals} {c : Dev nD} (H : R.Hold (m ((c : Thread nD τ).loc main_arg0)) (m ((c : Thread nD τ).loc main_arg1)) (m ((c : Thread nD τ).loc main_arg3)))
    (t : Fin cfg0.N) (y : S4x1x512.Idx) :
    out0_7 (F := Ideal) (iblk m c 0 t) (iblk m c 1 t) (iblk m c 2 t) (iblk m c 3 t) (iblk m c 4 t) y
      = R.weights (ix3 (batch t (y 0)) (y 1) (y 2)) := by
  canon_tiles x h
  all_goals
    unfold k0_pay24 k0_pay23 k0_pay22 k0_pay21 k0_pay20
    frame_out
    have hx : x = ix3 0 0 (y 2) := by blk_ext
    rw [hx]
  case piece0 => exact (Block.pay2_at (holds H t) (onehot m c t) _).trans (weights_at 3 (by omega))
  case piece1 => exact (Block.pay19_at (holds H t) (onehot m c t) _).trans (weights_at 2 (by omega))
  case piece2 => exact (Block.pay18_at (holds H t) (onehot m c t) _).trans (weights_at 1 (by omega))
  case piece3 => exact (Block.pay17_at (holds H t) (onehot m c t) _).trans (weights_at 0 (by omega))

/-- The third result's array after the run. -/
theorem final7 {R : Reals} {c : Dev nD} (h : R.Hold (m ((c : Thread nD τ).loc main_arg0)) (m ((c : Thread nD τ).loc main_arg1)) (m ((c : Thread nD τ).loc main_arg3))) :
    (dats m 0 c).arrAt 7 (cfgs 0).N = R.weights := by
  refine (dats m 0 c).arrAt_eq_of_covers 7 _ (by decide +kernel) fun t _ y => ?_
  blk_simp
  rw [after0_7]
  have e : ((View.whole main_v5_2).slice (win0_7.rect t)).emb y = ix3 (batch t (y 0)) (y 1) (y 2) := by blk_ext [idx t]
  rw [e]
  exact point7 h t y

end Cert.Attn.Kernel

end
-- ==== Proof.Reference.lean ====
/- UNTRUSTED — what the REFERENCE computes, read at an index, where the biases are zero and the LayerNorm's scale and shift are one
   and zero: the same functions of the arguments (Proof/Spec.lean) the kernel's results are. -/
module

public import proofs.«01_k».proof.Proof.Gen.ReferenceIdeal.Run
public import proofs.«01_k».proof.Proof.Spec

@[expose] public section

set_option maxRecDepth 16384

noncomputable section

namespace Cert.Attn.Ref

open Idealize.ShloMosaic Idealize.ShloMosaic.TcCoe Idealize.SL.Sem
open Cert.ReferenceIdeal Cert.ReferenceIdeal.Gen Cert.ReferenceIdeal.Value

/-- The arguments: the embeddings and the two weight matrices hold reals, every bias and the shift are zero, the scale is one. -/
structure Plain (V : Valuation τ sig (Elt Ideal)) (R : Reals) : Prop where
  hold : R.Hold (V (Proc.devRef .tc main_arg0)) (V (Proc.devRef .tc main_arg1)) (V (Proc.devRef .tc main_arg3))
  b1 : ∀ d : Fin 768, (show EReal from V (Proc.devRef .tc main_arg2) (ix1 d)) = 0
  b2 : ∀ d : Fin 768, (show EReal from V (Proc.devRef .tc main_arg4) (ix1 d)) = 0
  gamma : ∀ d : Fin 768, (show EReal from V (Proc.devRef .tc main_arg5) (ix1 d)) = 1
  beta : ∀ d : Fin 768, (show EReal from V (Proc.devRef .tc main_arg6) (ix1 d)) = 0
  by0 : ∀ j : Fin 3, (show EReal from V (Proc.devRef .tc main_arg8) (ix1 j)) = 0
  bz0 : ∀ j : Fin 5, (show EReal from V (Proc.devRef .tc main_arg10) (ix1 j)) = 0

variable {V : Valuation τ sig (Elt Ideal)} {R : Reals}

/-- The residual rows. -/
theorem v9_at (h : Plain V R) (i : Fin 32) (s : Fin 512) (d : Fin 768) :
    (show EReal from res_main_v9 V (ix3 i s d)) = ((R.x i s d : ℝ) : EReal) := by
  pointwise [res_main_v9]
  simp only [h.hold.emb, h.hold.w1, h.hold.w2, h.b1, h.b2, add_zero, ← EReal.coe_mul, coe_sum, ← EReal.coe_zero, coe_max, ← EReal.coe_add]
  rfl

/-- The mean. -/
theorem v13_at (h : Plain V R) (i : Fin 32) (s : Fin 512) :
    (show EReal from res_main_v13 V (ix3 i s 0)) = ((mean (R.x i s) : ℝ) : EReal) := by
  pointwise [res_main_v13]
  simp only [v9_at h, coe_sum, ofBits_768]
  rw [Ideal.div_coe (by norm_num), ← EReal.coe_mul]
  rfl

/-- The deviations. -/
theorem v15_at (h : Plain V R) (i : Fin 32) (s : Fin 512) (d : Fin 768) :
    (show EReal from res_main_v15 V (ix3 i s d)) = ((dev (R.x i s) d : ℝ) : EReal) := by
  pointwise [res_main_v15]
  simp only [v9_at h, v13_at h, ← EReal.coe_sub]
  rfl

/-- The variance. -/
theorem v20_at (h : Plain V R) (i : Fin 32) (s : Fin 512) :
    (show EReal from res_main_v20 V (ix3 i s 0)) = ((var (R.x i s) : ℝ) : EReal) := by
  pointwise [res_main_v20]
  simp only [v15_at h, ← EReal.coe_mul, coe_sum, ofBits_768]
  rw [Ideal.div_coe (by norm_num), ← EReal.coe_mul]
  rfl

/-- The normalised rows. -/
theorem v33_at (h : Plain V R) (i : Fin 32) (s : Fin 512) (d : Fin 768) :
    (show EReal from res_main_v33 V (ix3 i s d)) = ((dev (R.x i s) d * rstd (R.x i s) : ℝ) : EReal) := by
  have hp := var_eps_pos (R.x i s)
  pointwise [res_main_v33]
  simp only [v9_at h, v13_at h, v20_at h, h.gamma, h.beta, mul_one, add_zero, ofBits_eps, ← EReal.coe_sub, ← EReal.coe_add,
    Ideal.sqrt_coe, hp.not_gt, ↓reduceIte]
  rw [Ideal.div_coe (Real.sqrt_pos.2 hp).ne', ← EReal.coe_mul, one_div]
  rfl

/-- The guarded norms. -/
theorem v50_at (h : Plain V R) (i : Fin 32) (s : Fin 512) :
    (show EReal from res_main_v50 V (ix2 i s)) = ((norm (R.x i s) : ℝ) : EReal) := by
  have hp := var_eps_pos (R.x i s)
  have hn := mul_pos (sqnorm_pos (R.x i s)) (one_div_pos.2 hp)
  pointwise [res_main_v50]
  simp only [v33_at h, v20_at h, ofBits_eps, ofBits_guard, ← EReal.coe_add, ← EReal.coe_mul, coe_sum, Ideal.div_coe hp.ne',
    sqnorm_ref, Ideal.sqrt_coe, hn.not_gt, ↓reduceIte]
  rfl

/-- The sigmoids. -/
theorem v67_at (h : Plain V R) (i : Fin 32) (s : Fin 512) :
    (show EReal from res_main_v67 V (ix2 i s)) = ((gate (R.x i) s : ℝ) : EReal) := by
  pointwise [res_main_v67]
  have hn (k : Fin 512) : norm (R.x i s) * norm (R.x i k) ≠ 0 := (mul_pos (norm_pos _) (norm_pos _)).ne'
  have he : 1 + Real.exp (score (R.x i) s) ≠ 0 := (add_pos one_pos (Real.exp_pos _)).ne'
  simp only [v33_at h, v50_at h, ← EReal.coe_mul, coe_sum, Ideal.div_coe (hn _), ofBits_512]
  rw [Ideal.div_coe (by norm_num), ← EReal.coe_mul, score_eq, neg_neg, Ideal.exp_coe, ← EReal.coe_one, ← EReal.coe_add,
    Ideal.div_coe he, ← EReal.coe_mul, one_mul]
  rfl

/-- The exponentials, all less one number of the batch's. -/
theorem v74_at (h : Plain V R) (i : Fin 32) : ∃ M : ℝ, ∀ s : Fin 512,
    (show EReal from res_main_v74 V (ix2 i s)) = ((Real.exp (gate (R.x i) s - M) : ℝ) : EReal) := by
  obtain ⟨M, hM⟩ := fold_max_coe (ι := S32x512.Idx) (res_main_v67 V)
    (fun k => ⟨_, (congrArg (res_main_v67 V) (eq_ix2 k)).trans (v67_at h (k 0) (k 1))⟩)
    {k | reducesTo_S32x512_S32_d1.drop k = ix1 i} ⟨ix2 i 0, by
      rw [Finset.mem_filter]
      refine ⟨Finset.mem_univ _, ?_⟩
      funext a
      fin_cases a
      rfl⟩
  refine ⟨M, fun s => ?_⟩
  pointwise [res_main_v74]
  simp only [v67_at h, ofBits_negInf]
  refine Eq.trans (congrArg (fun z => Ideal.exp (((gate (R.x i) s : ℝ) : EReal) - max ⊥ z)) (Eq.trans ?_ hM)) ?_
  · congr
  · rw [max_eq_right bot_le, ← EReal.coe_sub, Ideal.exp_coe]

/-- A projection of the normalised rows: each row's factor leaves the sum over the columns. -/
theorem proj_at (h : Plain V R) {n : ℕ} (W : FVec Ideal ⟨2, ![768, n]⟩ .f32) (i : Fin 32) (s : Fin 512) (j : Fin n) :
    (∑ d, (show EReal from res_main_v33 V (ix3 i s d)) * W (ix2 d j)) = R.proj W i s j := by
  unfold Reals.proj
  rw [sum_mul_coe _ _ (rstd_pos _).le]
  refine Finset.sum_congr rfl fun d _ => ?_
  rw [v33_at h, EReal.coe_mul, mul_right_comm]

/-- The first result's array. -/
theorem res1 (h : Plain V R) :
    addf (Host.dotGeneral (φ₁ := .f32) (φ₂ := .f32) dot_S32x512x768_S768x3_S32x512x3_2_0_01_1_n_n none (res_main_v33 V) (V (Proc.devRef .tc main_arg7))) (broadcastInDim S32x512x3 ![0, 1, 2] bcast_S1x1x3_S32x512x3_0_1_2 (broadcastInDim S1x1x3 ![2] bcast_S3_S1x1x3_2 (V (Proc.devRef .tc main_arg8))))
      = R.out (V (Proc.devRef .tc main_arg7)) := by
  funext y
  obtain ⟨i, s, j, rfl⟩ : ∃ i s j, y = ix3 i s j := ⟨_, _, _, eq_ix3 y⟩
  pointwise
  simp only [h.by0, add_zero]
  exact proj_at h _ i s j

/-- The second result's array. -/
theorem res2 (h : Plain V R) :
    addf (Host.dotGeneral (φ₁ := .f32) (φ₂ := .f32) dot_S32x512x768_S768x5_S32x512x5_2_0_01_1_n_n none (res_main_v33 V) (V (Proc.devRef .tc main_arg9))) (broadcastInDim S32x512x5 ![0, 1, 2] bcast_S1x1x5_S32x512x5_0_1_2 (broadcastInDim S1x1x5 ![2] bcast_S5_S1x1x5_2 (V (Proc.devRef .tc main_arg10))))
      = R.out (V (Proc.devRef .tc main_arg9)) := by
  funext y
  obtain ⟨i, s, j, rfl⟩ : ∃ i s j, y = ix3 i s j := ⟨_, _, _, eq_ix3 y⟩
  pointwise
  simp only [h.bz0, add_zero]
  exact proj_at h _ i s j

/-- The third result's array. -/
theorem res3 (h : Plain V R) :
    broadcastInDim S32x1x512 ![0, 2] bcast_S32x512_S32x1x512_0_2 (Host.divf (res_main_v74 V) (broadcastInDim S32x512 ![0, 1] bcast_S32x1_S32x512_0_1 (broadcastInDim S32x1 ![0] bcast_S32_S32x1_0 (Host.reduceAdd (res_main_v74 V) (constant S_ .f32 0x00000000#32) reducesTo_S32x512_S32_d1 h_S_))))
      = R.weights := by
  funext y
  obtain ⟨i, s, j, rfl⟩ : ∃ i s j, y = ix3 i s j := ⟨_, _, _, eq_ix3 y⟩
  obtain ⟨M, hM⟩ := v74_at h i
  have hp : (∑ k, Real.exp (gate (R.x i) k - M)) ≠ 0 := (Finset.sum_pos (fun k _ => Real.exp_pos _) ⟨0, Finset.mem_univ _⟩).ne'
  pointwise
  simp only [hM, coe_sum]
  rw [Ideal.div_coe hp, ← EReal.coe_mul, softmax_shift]
  rfl

end Cert.Attn.Ref

end
-- ==== Proof.Pre.lean ====
/- UNTRUSTED — what the PRECONDITION says of the arguments: the embeddings and the two weight matrices are finite everywhere, every
   bias and the LayerNorm's shift are zero, its scale is one. -/
module

public import proofs.«01_k».proof.Proof.Gen.Pre_plain_layer_norm
public import proofs.«01_k».proof.Proof.Spec
public import Idealize.ShloMosaic.Lib.ReduceAll

@[expose] public section

set_option maxRecDepth 16384

noncomputable section

namespace Cert.Attn.Pre

open Idealize.ShloMosaic Idealize.ShloMosaic.TcCoe
open Cert.Pre_plain_layer_norm

/-- A conjunction of two bits that is set has both set. -/
theorem and_set {x y : IVec S_ 1} {j : S_.Idx} (e : andi x y j = 1#1) : x j = 1#1 ∧ y j = 1#1 :=
  (by decide : ∀ a b : BitVec 1, a &&& b = 1#1 → a = 1#1 ∧ b = 1#1) _ _ e

variable {s u : Shape} {axes : List (Fin s.rank)}

/-- "Every entry's absolute value is below `+∞`" makes every entry a real. -/
theorem real_of (x : FVec Ideal s .f32) (init : u.Idx → BitVec 1) (hb : S_.BroadcastsInDim s (![] : Fin 0 → Fin s.rank))
    (h : s.ReducesTo axes S_) (hu : 0 < u.numel) (j : S_.Idx)
    (e : Host.reduce IntOp.andi (cmpf .olt (Host.absf x) (broadcastInDim s ![] hb (constant S_ .f32 0x7F800000#32))) init h hu j = 1#1)
    (i : s.Idx) : x i = ((EReal.toReal (x i) : ℝ) : EReal) := by
  have h1 : Ideal.cmp .olt (max (x i) (-(x i))) (Ideal.ofBits .f32 0x7F800000#32) = 1#1 := Host.reduce_andi_all _ init h hu j e i
  have h2 : max (x i) (-(x i)) < ⊤ := by
    rw [ofBits_posInf] at h1
    by_contra hn
    simp [Ideal.cmp, hn] at h1
  rw [max_lt_iff] at h2
  refine (EReal.coe_toReal h2.1.ne fun hbot => ?_).symm
  rw [hbot] at h2
  exact absurd h2.2 (by simp)

/-- "Every entry equals the constant" says so of each entry. -/
theorem const_of (x : FVec Ideal s .f32) (b : BitVec 32) (init : u.Idx → BitVec 1) (hb : S_.BroadcastsInDim s (![] : Fin 0 → Fin s.rank))
    (h : s.ReducesTo axes S_) (hu : 0 < u.numel) (j : S_.Idx)
    (e : Host.reduce IntOp.andi (cmpf .oeq x (broadcastInDim s ![] hb (constant S_ .f32 b))) init h hu j = 1#1)
    (i : s.Idx) : x i = Ideal.ofBits .f32 b := by
  have h1 : Ideal.cmp .oeq (x i) (Ideal.ofBits .f32 b) = 1#1 := Host.reduce_andi_all _ init h hu j e i
  by_contra hn
  simp [Ideal.cmp, hn] at h1

/-- What the precondition says of the eleven arguments. -/
structure Says (x0 : FVec Ideal S32x512x768 .f32) (x1 : FVec Ideal S768x768 .f32) (x2 : FVec Ideal S768 .f32) (x3 : FVec Ideal S768x768 .f32)
    (x4 x5 x6 : FVec Ideal S768 .f32) (x8 : FVec Ideal S3 .f32) (x10 : FVec Ideal S5 .f32) (R : Reals) : Prop where
  hold : R.Hold x0 x1 x3
  b1 : ∀ d : Fin 768, x2 (ix1 d) = 0
  b2 : ∀ d : Fin 768, x4 (ix1 d) = 0
  gamma : ∀ d : Fin 768, x5 (ix1 d) = 1
  beta : ∀ d : Fin 768, x6 (ix1 d) = 0
  by0 : ∀ j : Fin 3, x8 (ix1 j) = 0
  bz0 : ∀ j : Fin 5, x10 (ix1 j) = 0

/-- The precondition says it, the reals being the entries themselves. -/
theorem decoded (x0 : FVec Ideal S32x512x768 .f32) (x1 : FVec Ideal S768x768 .f32) (x2 : FVec Ideal S768 .f32) (x3 : FVec Ideal S768x768 .f32)
    (x4 x5 x6 : FVec Ideal S768 .f32) (x7 : FVec Ideal S768x3 .f32) (x8 : FVec Ideal S3 .f32) (x9 : FVec Ideal S768x5 .f32) (x10 : FVec Ideal S5 .f32)
    (h : fn (F := Ideal) x0 x1 x2 x3 x4 x5 x6 x7 x8 x9 x10 = fun _ => 1#1) : ∃ R : Reals, Says x0 x1 x2 x3 x4 x5 x6 x8 x10 R := by
  have e := congrFun h ix0
  dsimp only [fn, fn_part1, fn_part2] at e
  obtain ⟨e, a6⟩ := and_set e
  obtain ⟨e, a5⟩ := and_set e
  obtain ⟨e, e'⟩ := and_set e
  obtain ⟨e, a3⟩ := and_set e
  obtain ⟨a0, a1⟩ := and_set e
  obtain ⟨e', a10⟩ := and_set e'
  obtain ⟨e', a8⟩ := and_set e'
  obtain ⟨a2, a4⟩ := and_set e'
  refine ⟨⟨fun i s d => EReal.toReal (x0 (ix3 i s d)), fun i j => EReal.toReal (x1 (ix2 i j)), fun i j => EReal.toReal (x3 (ix2 i j))⟩,
    ⟨fun i s d => real_of x0 _ _ _ _ _ a0 _, fun i j => real_of x1 _ _ _ _ _ a1 _, fun i j => real_of x3 _ _ _ _ _ a3 _⟩,
    fun d => (const_of x2 _ _ _ _ _ _ a2 _).trans Ideal.ofBits_zero_f32, fun d => (const_of x4 _ _ _ _ _ _ a4 _).trans Ideal.ofBits_zero_f32,
    fun d => (const_of x5 _ _ _ _ _ _ a5 _).trans Ideal.ofBits_one_f32, fun d => (const_of x6 _ _ _ _ _ _ a6 _).trans Ideal.ofBits_zero_f32,
    fun j => (const_of x8 _ _ _ _ _ _ a8 _).trans Ideal.ofBits_zero_f32, fun j => (const_of x10 _ _ _ _ _ _ a10 _).trans Ideal.ofBits_zero_f32⟩

end Cert.Attn.Pre

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal.Run
public import proofs.«01_k».proof.Proof.Gen.ReferenceIdeal
public import proofs.«01_k».proof.Proof.Gen.Pre_plain_layer_norm
public import proofs.«01_k».proof.Proof.Arrays
public import proofs.«01_k».proof.Proof.Reference
public import proofs.«01_k».proof.Proof.Pre
public import Idealize.ShloMosaic.Adequacy
public import Idealize.ShloMosaic.Init

@[expose] public section

noncomputable section

namespace Cert.Proof

open Idealize.ShloMosaic Idealize.ShloMosaic.TcCoe Idealize.SL.Sem

open Cert.Attn

/-- From memories that hold the same arguments, of which the precondition holds: on every device there are reals the kernel's three
    real operands hold, and the reference's arguments are those reals with zero biases, unit scale and zero shift. -/
theorem reals {m : (ℓ : Loc Cert.KernelIdeal.nD Cert.KernelIdeal.τ Cert.KernelIdeal.sig) → Buf (Elt Ideal) ℓ}
    {m' : (ℓ : Loc Cert.ReferenceIdeal.nD Cert.ReferenceIdeal.τ Cert.ReferenceIdeal.sig) → Buf (Elt Ideal) ℓ} (c : Dev Cert.KernelIdeal.nD)
    (hpre : Pre_KernelIdeal_plain_layer_norm (hPre_plain_layer_norm := Cert.Pre_plain_layer_norm.Gen.facts) m)
    (a0 : m' (c.tc.loc Cert.ReferenceIdeal.main_arg0) = m (c.tc.loc Cert.KernelIdeal.main_arg0))
    (a1 : m' (c.tc.loc Cert.ReferenceIdeal.main_arg1) = m (c.tc.loc Cert.KernelIdeal.main_arg1))
    (a2 : m' (c.tc.loc Cert.ReferenceIdeal.main_arg2) = m (c.tc.loc Cert.KernelIdeal.main_arg2))
    (a3 : m' (c.tc.loc Cert.ReferenceIdeal.main_arg3) = m (c.tc.loc Cert.KernelIdeal.main_arg3))
    (a4 : m' (c.tc.loc Cert.ReferenceIdeal.main_arg4) = m (c.tc.loc Cert.KernelIdeal.main_arg4))
    (a5 : m' (c.tc.loc Cert.ReferenceIdeal.main_arg5) = m (c.tc.loc Cert.KernelIdeal.main_arg5))
    (a6 : m' (c.tc.loc Cert.ReferenceIdeal.main_arg6) = m (c.tc.loc Cert.KernelIdeal.main_arg6))
    (a8 : m' (c.tc.loc Cert.ReferenceIdeal.main_arg8) = m (c.tc.loc Cert.KernelIdeal.main_arg8))
    (a10 : m' (c.tc.loc Cert.ReferenceIdeal.main_arg10) = m (c.tc.loc Cert.KernelIdeal.main_arg10)) :
    ∃ R : Reals, R.Hold (m (c.tc.loc Cert.KernelIdeal.main_arg0)) (m (c.tc.loc Cert.KernelIdeal.main_arg1)) (m (c.tc.loc Cert.KernelIdeal.main_arg3))
      ∧ Ref.Plain (StableHlo.launchContents m' c) R := by
  obtain ⟨R, h⟩ := Pre.decoded _ _ _ _ _ _ _ _ _ _ _ (hpre c)
  exact ⟨R, h.hold,
    ⟨fun i s d => (congrFun a0 _).trans (h.hold.emb i s d), fun i j => (congrFun a1 _).trans (h.hold.w1 i j),
      fun i j => (congrFun a3 _).trans (h.hold.w2 i j)⟩,
    fun d => (congrFun a2 _).trans (h.b1 d), fun d => (congrFun a4 _).trans (h.b2 d), fun d => (congrFun a5 _).trans (h.gamma d),
    fun d => (congrFun a6 _).trans (h.beta d), fun j => (congrFun a8 _).trans (h.by0 j), fun j => (congrFun a10 _).trans (h.bz0 j)⟩

/-- The idealized kernel and the idealized reference agree: from memories that hold the same arguments, of which the precondition
    holds, both end with the same three arrays. -/
theorem algebraic : algebraic_KernelIdeal_ReferenceIdeal_pre_plain_layer_norm (hKernelIdeal := Cert.KernelIdeal.Gen.facts)
    (hReferenceIdeal := Cert.ReferenceIdeal.Gen.facts) (hPre_plain_layer_norm := Cert.Pre_plain_layer_norm.Gen.facts) := by
  pair_intro
  · run_from Cert.KernelIdeal.Gen.run_main m g
  · run_from Cert.ReferenceIdeal.Value.run m' g'
    all_goals
      obtain ⟨a0, a1, a2, a3, a4, a5, a6, a7, a8, a9, a10⟩ := hagree c
      obtain ⟨R, hk, hr⟩ := reals c hpre a0 a1 a2 a3 a4 a5 a6 a8 a10
    · rw [Kernel.final5 hk, ← a7, ← a8]
      exact Ref.res1 hr
    · rw [Kernel.final6 hk, ← a9, ← a10]
      exact Ref.res2 hr
    · rw [Kernel.final7 hk]
      exact Ref.res3 hr

/-- The reference runs from every memory, leaves its arguments as they were, and ends with every counter at zero. -/
theorem reference_frame : quiescent_ReferenceIdeal (hReferenceIdeal := Cert.ReferenceIdeal.Gen.facts) := by
  intro m g _
  refine (θ_run (Cert.ReferenceIdeal.defs (F := Ideal)) _ _).mono (fun r h => ⟨fun c => (h c).2.2.2, sem_eq_zero_of_no_sems (by decide) r.2⟩)
    (Cert.ReferenceIdeal.Value.run m g)

/-- The claim. -/
theorem claim : Cert.Claim := ⟨Cert.Kernel.Gen.facts, Cert.KernelIdeal.Gen.facts, Cert.ReferenceIdeal.Gen.facts, Cert.Pre_plain_layer_norm.Gen.facts,
  fun m ρ _ => Cert.Kernel.Gen.frame m ρ, fun m ρ _ => Cert.KernelIdeal.Gen.frame m ρ, fun m ρ _ => Cert.KernelIdeal.Gen.frame m ρ,
  fun m ρ _ => reference_frame m ρ trivial, fun m ρ _ => reference_frame m ρ trivial,
  IdealRules.named_const.statement Cert.KernelIdeal.κ "inv_d" .f32 0x3AAAAAAB#32 ((1 / 768 : ℝ) : EReal) rfl,
  algebraic⟩

end Cert.Proof

end
